-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sharpness_below_infinity [hPre_sharpness_below_infinity : Cert.Pre_sharpness_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_sharpness_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sharpness_below_infinity [hPre_sharpness_below_infinity : Cert.Pre_sharpness_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sharpness_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sharpness_below_infinity [hKernelIdeal : Cert.KernelIdeal.Facts] [hPre_sharpness_below_infinity : Cert.Pre_sharpness_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sharpness_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sharpness_below_infinity [hReferenceIdeal : Cert.ReferenceIdeal.Facts] [hPre_sharpness_below_infinity : Cert.Pre_sharpness_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sharpness_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sharpness_below_infinity [hKernelIdeal : Cert.KernelIdeal.Facts] [hReferenceIdeal : Cert.ReferenceIdeal.Facts] [hPre_sharpness_below_infinity : Cert.Pre_sharpness_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sharpness_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sharpness_below_infinity : Cert.Pre_sharpness_below_infinity.Facts),
    quiescent_Kernel (hKernel := hKernel)
    ∧ quiescent_KernelIdeal (hKernelIdeal := hKernelIdeal)
    ∧ quiescent_KernelIdeal_pre_sharpness_below_infinity (hKernelIdeal := hKernelIdeal) (hPre_sharpness_below_infinity := hPre_sharpness_below_infinity)
    ∧ quiescent_ReferenceIdeal (hReferenceIdeal := hReferenceIdeal)
    ∧ quiescent_ReferenceIdeal_pre_sharpness_below_infinity (hReferenceIdeal := hReferenceIdeal) (hPre_sharpness_below_infinity := hPre_sharpness_below_infinity)
    ∧ preserves_Kernel_KernelIdeal
    ∧ algebraic_KernelIdeal_ReferenceIdeal_pre_sharpness_below_infinity (hKernelIdeal := hKernelIdeal) (hReferenceIdeal := hReferenceIdeal) (hPre_sharpness_below_infinity := hPre_sharpness_below_infinity)
-- ==== Pre_sharpness_below_infinity.lean ====
abbrev S1024x512 : Shape := ⟨2, ![1024, 512]⟩
abbrev S1024x2048 : Shape := ⟨2, ![1024, 2048]⟩
abbrev S1024x2048x128 : Shape := ⟨3, ![1024, 2048, 128]⟩
abbrev S134x512 : Shape := ⟨2, ![134, 512]⟩
abbrev S134 : Shape := ⟨1, ![134]⟩
abbrev S1x512 : Shape := ⟨2, ![1, 512]⟩
abbrev S512 : Shape := ⟨1, ![512]⟩
abbrev S1024 : Shape := ⟨1, ![1024]⟩
abbrev S1 : Shape := ⟨1, ![1]⟩
abbrev S_ : Shape := ⟨0, ![]⟩

class Facts : Prop where
  slices_S134x512_S1x512_128_0 : S134x512.Slices ![128, 0] S1x512
  shapeCasts_S1x512_S512 : S1x512.ShapeCasts S512
  slices_S134_S1_128 : S134.Slices ![128] S1
  shapeCasts_S1_S_ : S1.ShapeCasts S_
  bcast_S_S1024 : S_.BroadcastsInDim S1024 (![] : Fin 0 → Fin S1024.rank)
  dot_S1024x512_S512_S1024_1_0_0_n_n_n_wf : DotDims.WF S1024x512 S512 S1024 [1] [0] [0] [] [] []

variable [Facts]

def dot_S1024x512_S512_S1024_1_0_0_n_n_n : DotDims S1024x512 S512 S1024 where
  lhsContracting := [1]
  rhsContracting := [0]
  lhsNonContracting := [0]
  rhsNonContracting := []
  lhsBatch := []
  rhsBatch := []
  wf := dot_S1024x512_S512_S1024_1_0_0_n_n_n_wf
def fn {F : FTy → Type} [FloatOps F] (main_arg0 : FVec F S1024x512 .f32) (main_arg1 : FVec F S1024x2048 .f32) (main_arg2 : FVec F S1024x2048x128 .f32) (main_arg3 : FVec F S134x512 .f32) (main_arg4 : FVec F S134 .f32) : IVec S1024 1 :=
  let main_v0 : FVec F S1x512 .f32 := (extractStridedSlice S1x512 ![128, 0] · slices_S134x512_S1x512_128_0) main_arg3
  let main_v1 : FVec F S512 .f32 := shapeCast S512 main_v0 shapeCasts_S1x512_S512
  let main_v2 : FVec F S1024 .f32 := (fun l r => Host.dotGeneral dot_S1024x512_S512_S1024_1_0_0_n_n_n none l r) main_arg0 main_v1
  let main_v3 : FVec F S1 .f32 := (extractStridedSlice S1 ![128] · slices_S134_S1_128) main_arg4
  let main_v4 : FVec F S_ .f32 := shapeCast S_ main_v3 shapeCasts_S1_S_
  let main_v5 : FVec F S1024 .f32 := broadcastInDim S1024 ![] bcast_S_S1024 main_v4
  let main_v6 : FVec F S1024 .f32 := addf main_v2 main_v5
  let main_cst : FVec F S_ .f32 := constant S_ .f32 0x7F800000#32
  let main_v7 : FVec F S1024 .f32 := broadcastInDim S1024 ![] bcast_S_S1024 main_cst
  let main_v8 : IVec S1024 1 := cmpf .olt main_v6 main_v7
  main_v8
-- ==== Kernel.lean ====
abbrev S1024x512 : Shape := ⟨2, ![1024, 512]⟩
abbrev S1024x2048 : Shape := ⟨2, ![1024, 2048]⟩
abbrev S1024x2048x128 : Shape := ⟨3, ![1024, 2048, 128]⟩
abbrev S134x512 : Shape := ⟨2, ![134, 512]⟩
abbrev S134 : Shape := ⟨1, ![134]⟩
abbrev S1x134 : Shape := ⟨2, ![1, 134]⟩
abbrev S1024x16x128 : Shape := ⟨3, ![1024, 16, 128]⟩
abbrev S1024x128 : Shape := ⟨2, ![1024, 128]⟩
abbrev S16x512 : Shape := ⟨2, ![16, 512]⟩
abbrev S16x16x128 : Shape := ⟨3, ![16, 16, 128]⟩
abbrev S16x2048x128 : Shape := ⟨3, ![16, 2048, 128]⟩
abbrev S16x128 : Shape := ⟨2, ![16, 128]⟩
abbrev S16x2048 : Shape := ⟨2, ![16, 2048]⟩
abbrev S2x16x16x128 : Shape := ⟨4, ![2, 16, 16, 128]⟩
abbrev S16x134 : Shape := ⟨2, ![16, 134]⟩
abbrev S16x1 : Shape := ⟨2, ![16, 1]⟩
abbrev S16x3 : Shape := ⟨2, ![16, 3]⟩
abbrev S16 : Shape := ⟨1, ![16]⟩
abbrev S256x2 : Shape := ⟨2, ![256, 2]⟩
abbrev S16x512x128 : Shape := ⟨3, ![16, 512, 128]⟩
abbrev S16x1x128 : Shape := ⟨3, ![16, 1, 128]⟩
abbrev S16x512x256 : Shape := ⟨3, ![16, 512, 256]⟩
abbrev S8192x256 : Shape := ⟨2, ![8192, 256]⟩
abbrev S8192x2 : Shape := ⟨2, ![8192, 2]⟩
abbrev S64x128x2 : Shape := ⟨3, ![64, 128, 2]⟩
abbrev S64x2x128 : Shape := ⟨3, ![64, 2, 128]⟩
abbrev S16x4x2x128 : Shape := ⟨4, ![16, 4, 2, 128]⟩
abbrev S16x4x1x128 : Shape := ⟨4, ![16, 4, 1, 128]⟩
abbrev S16x4x128 : Shape := ⟨3, ![16, 4, 128]⟩
abbrev S1x16x16x128 : Shape := ⟨4, ![1, 16, 16, 128]⟩
abbrev S16x1x1 : Shape := ⟨3, ![16, 1, 1]⟩
abbrev S16x16x1 : Shape := ⟨3, ![16, 16, 1]⟩
abbrev S16x15x1 : Shape := ⟨3, ![16, 15, 1]⟩
abbrev S16x16x127 : Shape := ⟨3, ![16, 16, 127]⟩
abbrev S16x32768 : Shape := ⟨2, ![16, 32768]⟩
abbrev S32768x128 : Shape := ⟨2, ![32768, 128]⟩

abbrev nBuf : Space → Nat
  | .hbm => 9
  | .vmem => 13
  | .smem => 0
  | _ => 0

abbrev bufTy : (tb : Table) → Fin (tcTables nBuf tb) → BufTy
  | .hbm, ⟨0, _⟩ => ⟨S1024x512, .f32⟩
  | .hbm, ⟨1, _⟩ => ⟨S1024x2048, .f32⟩
  | .hbm, ⟨2, _⟩ => ⟨S1024x2048x128, .f32⟩
  | .hbm, ⟨3, _⟩ => ⟨S134x512, .f32⟩
  | .hbm, ⟨4, _⟩ => ⟨S134, .f32⟩
  | .hbm, ⟨5, _⟩ => ⟨S1x134, .f32⟩
  | .hbm, ⟨6, _⟩ => ⟨S1024x16x128, .f32⟩
  | .hbm, ⟨7, _⟩ => ⟨S1024x128, .f32⟩
  | .hbm, ⟨8, _⟩ => ⟨S1024x2048, .f32⟩
  | .local _ .vmem, ⟨0, _⟩ => ⟨S16x512, .f32⟩
  | .local _ .vmem, ⟨1, _⟩ => ⟨S16x512, .f32⟩
  | .local _ .vmem, ⟨2, _⟩ => ⟨S16x16x128, .f32⟩
  | .local _ .vmem, ⟨3, _⟩ => ⟨S16x16x128, .f32⟩
  | .local _ .vmem, ⟨4, _⟩ => ⟨S134x512, .f32⟩
  | .local _ .vmem, ⟨5, _⟩ => ⟨S1x134, .f32⟩
  | .local _ .vmem, ⟨6, _⟩ => ⟨S16x2048x128, .f32⟩
  | .local _ .vmem, ⟨7, _⟩ => ⟨S16x2048x128, .f32⟩
  | .local _ .vmem, ⟨8, _⟩ => ⟨S16x128, .f32⟩
  | .local _ .vmem, ⟨9, _⟩ => ⟨S16x128, .f32⟩
  | .local _ .vmem, ⟨10, _⟩ => ⟨S16x2048, .f32⟩
  | .local _ .vmem, ⟨11, _⟩ => ⟨S16x2048, .f32⟩
  | .local _ .vmem, ⟨12, _⟩ => ⟨S2x16x16x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S134x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x134 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1024x512 : Shape := ⟨2, ![1024, 512]⟩
abbrev S1024x2048 : Shape := ⟨2, ![1024, 2048]⟩
abbrev S1024x2048x128 : Shape := ⟨3, ![1024, 2048, 128]⟩
abbrev S134x512 : Shape := ⟨2, ![134, 512]⟩
abbrev S134 : Shape := ⟨1, ![134]⟩
abbrev S512x134 : Shape := ⟨2, ![512, 134]⟩
abbrev S1024x134 : Shape := ⟨2, ![1024, 134]⟩
abbrev S1x134 : Shape := ⟨2, ![1, 134]⟩
abbrev S1024x128 : Shape := ⟨2, ![1024, 128]⟩
abbrev S1024x1 : Shape := ⟨2, ![1024, 1]⟩
abbrev S_ : Shape := ⟨0, ![]⟩
abbrev S1024x3 : Shape := ⟨2, ![1024, 3]⟩
abbrev S1024 : Shape := ⟨1, ![1024]⟩
abbrev S1024x2047 : Shape := ⟨2, ![1024, 2047]⟩

abbrev nBuf : Space → Nat
  | .hbm => 136
  | .vmem => 0
  | .smem => 0
  | _ => 0

abbrev hbmTy0_0 (i : Nat) : BufTy := match i % 128 with
  | 0 => ⟨S1024x512, .f32⟩
  | 1 => ⟨S1024x2048, .f32⟩
  | 2 => ⟨S1024x2048x128, .f32⟩
  | 3 => ⟨S134x512, .f32⟩
  | 4 => ⟨S134, .f32⟩
  | 5 => ⟨S512x134, .f32⟩
  | 6 => ⟨S1024x134, .f32⟩
  | 7 => ⟨S1x134, .f32⟩
  | 8 => ⟨S1024x134, .f32⟩
  | 9 => ⟨S1024x134, .f32⟩
  | 10 => ⟨S1024x128, .f32⟩
  | 11 => ⟨S1024x1, .f32⟩
  | 12 => ⟨S_, .f32⟩
  | 13 => ⟨S1024x1, .f32⟩
  | 14 => ⟨S1024x1, .f32⟩
  | 15 => ⟨S1024x1, .f32⟩
  | 16 => ⟨S1024x1, .f32⟩
  | 17 => ⟨S1024x1, .i1⟩
  | 18 => ⟨S1024x1, .f32⟩
  | 19 => ⟨S1024x1, .f32⟩
  | 20 => ⟨S1024x1, .f32⟩
  | 21 => ⟨S1024x1, .f32⟩
  | 22 => ⟨S1024x1, .f32⟩
  | 23 => ⟨S1024x1, .f32⟩
  | 24 => ⟨S1024x1, .f32⟩
  | 25 => ⟨S1024x1, .f32⟩
  | 26 => ⟨S1024x1, .f32⟩
  | 27 => ⟨S1024x1, .f32⟩
  | 28 => ⟨S1024x1, .f32⟩
  | 29 => ⟨S_, .f32⟩
  | 30 => ⟨S1024x1, .f32⟩
  | 31 => ⟨S1024x1, .f32⟩
  | 32 => ⟨S_, .f32⟩
  | 33 => ⟨S1024x1, .f32⟩
  | 34 => ⟨S1024x1, .f32⟩
  | 35 => ⟨S1024x3, .f32⟩
  | 36 => ⟨S_, .f32⟩
  | 37 => ⟨S1024, .f32⟩
  | 38 => ⟨S_, .f32⟩
  | 39 => ⟨S1024, .f32⟩
  | 40 => ⟨S1024, .f32⟩
  | 41 => ⟨S1024x1, .f32⟩
  | 42 => ⟨S1024x3, .f32⟩
  | 43 => ⟨S1024x3, .f32⟩
  | 44 => ⟨S1024x3, .f32⟩
  | 45 => ⟨S_, .f32⟩
  | 46 => ⟨S1024, .f32⟩
  | 47 => ⟨S1024x1, .f32⟩
  | 48 => ⟨S1024x3, .f32⟩
  | 49 => ⟨S1024x3, .f32⟩
  | 50 => ⟨S1024x1, .f32⟩
  | 51 => ⟨S_, .f32⟩
  | 52 => ⟨S1024x1, .f32⟩
  | 53 => ⟨S1024x1, .f32⟩
  | 54 => ⟨S1024x1, .f32⟩
  | 55 => ⟨S1024x1, .f32⟩
  | 56 => ⟨S1024x1, .i1⟩
  | 57 => ⟨S1024x1, .f32⟩
  | 58 => ⟨S1024x1, .f32⟩
  | 59 => ⟨S1024x1, .f32⟩
  | 60 => ⟨S1024x1, .f32⟩
  | 61 => ⟨S1024x1, .f32⟩
  | 62 => ⟨S1024x1, .f32⟩
  | 63 => ⟨S1024x1, .f32⟩
  | 64 => ⟨S1024x1, .f32⟩
  | 65 => ⟨S_, .f32⟩
  | 66 => ⟨S1024x1, .f32⟩
  | 67 => ⟨S1024x1, .f32⟩
  | 68 => ⟨S1024x2048, .f32⟩
  | 69 => ⟨S1024x2048x128, .f32⟩
  | 70 => ⟨S_, .f32⟩
  | 71 => ⟨S1024x2048, .f32⟩
  | 72 => ⟨S1024x2048, .f32⟩
  | 73 => ⟨S1024x128, .f32⟩
  | 74 => ⟨S_, .f32⟩
  | 75 => ⟨S1024, .f32⟩
  | 76 => ⟨S1024x1, .f32⟩
  | 77 => ⟨S1024x1, .f32⟩
  | 78 => ⟨S1024x2048, .f32⟩
  | 79 => ⟨S1024x2048, .f32⟩
  | 80 => ⟨S_, .f32⟩
  | 81 => ⟨S1024x2048, .f32⟩
  | 82 => ⟨S1024x2048, .f32⟩
  | 83 => ⟨S1024x2048, .f32⟩
  | 84 => ⟨S1024x2048, .f32⟩
  | 85 => ⟨S1024x2048, .f32⟩
  | 86 => ⟨S_, .f32⟩
  | 87 => ⟨S1024, .f32⟩
  | 88 => ⟨S_, .f32⟩
  | 89 => ⟨S1024, .f32⟩
  | 90 => ⟨S1024, .f32⟩
  | 91 => ⟨S1024x1, .f32⟩
  | 92 => ⟨S1024x2048, .f32⟩
  | 93 => ⟨S1024x2048, .f32⟩
  | 94 => ⟨S1024x2048, .f32⟩
  | 95 => ⟨S_, .f32⟩
  | 96 => ⟨S1024, .f32⟩
  | 97 => ⟨S1024x1, .f32⟩
  | 98 => ⟨S1024x2048, .f32⟩
  | 99 => ⟨S1024x2048, .f32⟩
  | 100 => ⟨S1024x2048, .f32⟩
  | 101 => ⟨S1024x2048, .f32⟩
  | 102 => ⟨S_, .f32⟩
  | 103 => ⟨S1024x1, .f32⟩
  | 104 => ⟨S1024x1, .f32⟩
  | 105 => ⟨S1024x2048, .f32⟩
  | 106 => ⟨S1024x2048, .f32⟩
  | 107 => ⟨S1024x2048, .f32⟩
  | 108 => ⟨S1024x1, .f32⟩
  | 109 => ⟨S1024x1, .f32⟩
  | 110 => ⟨S1024x2047, .f32⟩
  | 111 => ⟨S1024x2048, .f32⟩
  | 112 => ⟨S1024x2048, .f32⟩
  | 113 => ⟨S1024x2048, .f32⟩
  | 114 => ⟨S1024x1, .f32⟩
  | 115 => ⟨S1024x2048, .f32⟩
  | 116 => ⟨S1024x2048, .f32⟩
  | 117 => ⟨S1024x2048, .f32⟩
  | 118 => ⟨S1024x1, .f32⟩
  | 119 => ⟨S1024x2047, .f32⟩
  | 120 => ⟨S1024x1, .f32⟩
  | 121 => ⟨S1024x2048, .f32⟩
  | 122 => ⟨S1024x2048, .f32⟩
  | 123 => ⟨S1024x2048, .f32⟩
  | 124 => ⟨S1024x2048, .f32⟩
  | 125 => ⟨S1024x2048, .f32⟩
  | 126 => ⟨S1024x2048, .f32⟩
  | 127 => ⟨S_, .f32⟩
  | _ => ⟨S1024x512, .f32⟩

abbrev hbmTy0_1 (i : Nat) : BufTy := match i % 128 with
  | 0 => ⟨S1024, .f32⟩
  | 1 => ⟨S1024x1, .f32⟩
  | 2 => ⟨S_, .f32⟩
  | 3 => ⟨S1024x1, .f32⟩
  | 4 => ⟨S1024x1, .f32⟩
  | 5 => ⟨S1024x2048, .f32⟩
  | 6 => ⟨S1024x2048, .f32⟩
  | 7 => ⟨S1024x128, .f32⟩
  | _ => ⟨S1024x512, .f32⟩

abbrev hbmTy (i : Nat) : BufTy := match i / 128 with
  | 0 => hbmTy0_0 i
  | 1 => hbmTy0_1 i
  | _ => ⟨S1024x512, .f32⟩

abbrev bufTy : (tb : Table) → Fin (tcTables nBuf tb) → BufTy
  | .hbm, ⟨i, _⟩ => hbmTy i
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_cst_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_1 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_cst : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_v28 : Ref sig .tc := ⟨.hbm, 64, rfl⟩
abbrev main_cst_4 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_call2_v0 : Ref sig .tc := ⟨.hbm, 69, rfl⟩
abbrev main_call2_cst : Ref sig .tc := ⟨.hbm, 70, rfl⟩
abbrev main_call2_v1 : Ref sig .tc := ⟨.hbm, 71, rfl⟩
abbrev main_v32 : Ref sig .tc := ⟨.hbm, 72, rfl⟩
abbrev main_call3_v0 : Ref sig .tc := ⟨.hbm, 73, rfl⟩
abbrev main_call3_cst : Ref sig .tc := ⟨.hbm, 74, rfl⟩
abbrev main_call3_v1 : Ref sig .tc := ⟨.hbm, 75, rfl⟩
abbrev main_call3_v2 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_cst_5 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_cst_6 : Ref sig .tc := ⟨.hbm, 86, rfl⟩
abbrev main_v41 : Ref sig .tc := ⟨.hbm, 87, rfl⟩
abbrev main_cst_7 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_cst_8 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_9 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_call4_v0 : Ref sig .tc := ⟨.hbm, 109, rfl⟩
abbrev main_call4_v1 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_call5_v0 : Ref sig .tc := ⟨.hbm, 119, rfl⟩
abbrev main_call5_v1 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_10 : Ref sig .tc := ⟨.hbm, 127, rfl⟩
abbrev main_v74 : Ref sig .tc := ⟨.hbm, 128, rfl⟩
abbrev main_v75 : Ref sig .tc := ⟨.hbm, 129, rfl⟩
abbrev main_cst_11 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩

abbrev nD : Nat := 1
abbrev τ : Topo := Topo.v7x

variable {F : FTy → Type} [FloatOps F]
-- ==== Proof.Row.lean ====
/-
  ONE ROW OF THE READ HEAD, as mathematics over the extended reals: from the controller's 134 outputs `o`, the row's
  memory `M` (2048 slots of 128 words) and its previous weights `wp`, the new weights over the slots and the vector
  read. The content weights `wc` are left a parameter, since they are computed in two ways: `content` (exponentials
  over their sum) and `contentStable` (the same with the largest logit subtracted first).
-/
module

public import Idealize.ShloMosaic.Lib.Pointwise

@[expose] public section

noncomputable section

open Idealize.ShloMosaic

namespace Cert.Head

/-- The small number added to a product of norms before dividing by it (`1e-8`, as a 32-bit float). -/
def eps : EReal := Ideal.ofBits .f32 0x322BCC77#32

/-- The small number added to the sum of the sharpened weights before dividing by it (`1e-16`, as a 32-bit float). -/
def tiny : EReal := Ideal.ofBits .f32 0x24E69595#32

/-- The value a running maximum starts from (minus infinity, as a 32-bit float). -/
def floorValue : EReal := Ideal.ofBits .f32 0xFF800000#32

/-- `log (1 + e^z)`, computed from the magnitude of `z` so that no large exponential occurs. -/
def softplus (z : EReal) : EReal := max z 0 + Ideal.log1p (Ideal.exp (-(max z (-z))))

/-- The largest entry of a finite family, as both programs compute it. -/
def largest {n : ℕ} (z : Fin n → EReal) : EReal := max floorValue (Finset.univ.fold max floorValue z)

/-- Softmax without the shift: each exponential over the sum of all. -/
def content {n : ℕ} (z : Fin n → EReal) (i : Fin n) : EReal := Ideal.div (Ideal.exp (z i)) (∑ k, Ideal.exp (z k))

/-- Softmax with the largest entry subtracted before the exponential. -/
def contentStable {n : ℕ} (z : Fin n → EReal) (i : Fin n) : EReal :=
  Ideal.div (Ideal.exp (z i - largest z)) (∑ k, Ideal.exp (z k - largest z))

/-- The Euclidean norm of a word. -/
def norm (v : Fin 128 → EReal) : EReal := Ideal.sqrt (∑ j, v j * v j)

section
variable (o : Fin 134 → EReal) (M : Fin 2048 → Fin 128 → EReal) (wp wc : Fin 2048 → EReal)

/-- The key: the first 128 outputs of the controller. -/
def key (j : Fin 128) : EReal := o ⟨j, by omega⟩

/-- The sharpness of the content addressing. -/
def sharpness : EReal := softplus (o 128)

/-- The gate between content weights and previous weights. -/
def gate : EReal := Ideal.div 1 (1 + Ideal.exp (-(o 129)))

/-- The weights of the three shifts. -/
def shifts : Fin 3 → EReal := contentStable fun i : Fin 3 => o ⟨130 + i, by omega⟩

/-- The exponent that sharpens the shifted weights. -/
def exponent : EReal := 1 + softplus (o 133)

/-- Cosine similarity of memory slot `n` to the key, the product of norms kept off zero. -/
def similarity (n : Fin 2048) : EReal := Ideal.div (∑ j, M n j * key o j) (norm (M n) * norm (key o) + eps)

/-- The logit of slot `n`. -/
def logit (n : Fin 2048) : EReal := sharpness o * similarity o M n

/-- Content weights and previous weights, mixed by the gate. -/
def gated (n : Fin 2048) : EReal := gate o * wc n + (1 - gate o) * wp n

/-- The slot before `n`, around the end. -/
def before (n : Fin 2048) : Fin 2048 := ⟨(n + 2047) % 2048, Nat.mod_lt _ (by omega)⟩

/-- The slot after `n`, around the end. -/
def after (n : Fin 2048) : Fin 2048 := ⟨(n + 1) % 2048, Nat.mod_lt _ (by omega)⟩

/-- The gated weights convolved with the three shift weights. -/
def shifted (n : Fin 2048) : EReal :=
  shifts o 0 * gated o wp wc (before n) + shifts o 1 * gated o wp wc n + shifts o 2 * gated o wp wc (after n)

/-- The shifted weights raised to the exponent. -/
def sharpened (n : Fin 2048) : EReal := Ideal.pow (shifted o wp wc n) (exponent o)

/-- The new weights: the sharpened ones over their sum. -/
def weights (n : Fin 2048) : EReal := Ideal.div (sharpened o wp wc n) ((∑ k, sharpened o wp wc k) + tiny)

end

/-- The vector read: the slots averaged with the weights `w`. -/
def read (M : Fin 2048 → Fin 128 → EReal) (w : Fin 2048 → EReal) (j : Fin 128) : EReal := ∑ n, w n * M n j

end Cert.Head
-- ==== Proof.Controller.lean ====
/-
  THE CONTROLLER OF A BLOCK: what the body's first operations hold, row by row: the 134 outputs, the key and its norm,
  the sharpness, the gate, the shift weights and the exponent.
-/
module

public import proofs.«01_k».proof.Proof.Gen.KernelIdeal.Skeleton
public import proofs.«01_k».proof.Proof.Row

@[expose] public section

set_option maxRecDepth 16384

noncomputable section

open Idealize.ShloMosaic Idealize.ShloMosaic.TcCoe Idealize.SL.Sem

namespace Cert.KernelIdeal.Block

open Cert.KernelIdeal Cert.KernelIdeal.Gen Cert.Head

variable (x : Vec Ideal S16x512 .f32) (W : Vec Ideal S134x512 .f32) (b : Vec Ideal S1x134 .f32)

/-- The controller's outputs for row `r` of a block. -/
def outputs (r : Fin 16) (q : Fin 134) : EReal := ∑ k : Fin 512, x (ix2 r k) * W (ix2 q k) + b (ix2 0 q)

/-- The affine map holds the outputs. -/
theorem outputs_read (r : Fin 16) (q : Fin 134) : k0_pay2 x W b (ix2 r q) = outputs x W b r q := by
  pointwise [k0_pay2]
  rfl

/-- Its first 128 columns are the key. -/
theorem key_read (r : Fin 16) (d : Fin 128) : k0_pay3 x W b (ix2 r d) = key (outputs x W b r) d := by
  pointwise [k0_pay3]
  exact outputs_read x W b r _

/-- The branch taken at an unordered value is never taken, and the rest is the softplus. -/
theorem softplus_form (z : EReal) :
    (if z ≠ z then z else max z 0 + Ideal.log1p (Ideal.exp (0 - max z (-z)))) = softplus z := by
  rw [if_neg (by simp), zero_sub]; rfl

/-- The sharpness column. -/
theorem sharpness_read (r : Fin 16) (q : Fin 1) : k0_pay4 x W b (ix2 r q) = sharpness (outputs x W b r) := by
  fin_vals q with hq
  pointwise [k0_pay4]
  exact (softplus_form _).trans (by rw [outputs_read]; rfl)

/-- The gate column. -/
theorem gate_read (r : Fin 16) (q : Fin 1) : k0_pay5 x W b (ix2 r q) = gate (outputs x W b r) := by
  fin_vals q with hq
  pointwise [k0_pay5]
  rw [outputs_read]; rfl

/-- The exponent column. -/
theorem exponent_read (r : Fin 16) (q : Fin 1) :
    k0_pay13 (k0_pay8 x W b) (k0_pay10 x W b) (k0_pay11 x W b) (k0_pay12 x W b) (ix2 r q) = exponent (outputs x W b r) := by
  fin_vals q with hq
  pointwise [k0_pay13, k0_pay8, k0_pay10, k0_pay11, k0_pay12, k0_pay9, k0_pay7]
  exact congrArg (fun s : EReal => 1 + s) ((softplus_form _).trans (congrArg softplus (outputs_read x W b r 133)))

/-- The three shift weights. -/
theorem shifts_read (r : Fin 16) (q : Fin 3) : k0_pay6 x W b (ix2 r q) = shifts (outputs x W b r) q := by
  pointwise [k0_pay6]
  simp only [outputs_read]; rfl

/-- The norm of the key. -/
theorem keyNorm_read (k : FVec Ideal S16x128 .f32) (r : Fin 16) (q : Fin 1) : k0_pay14 k (ix2 r q) = norm fun j => k (ix2 r j) := by
  pointwise [k0_pay14]
  rfl

end Cert.KernelIdeal.Block
-- ==== Proof.Products.lean ====
/-
  THE INNER PRODUCTS OF A BLOCK: the body multiplies each slot by the key, and by itself, lays the two products side by
  side in one row of 256, and sums the halves with one matrix product by a 0/1 selector; this it does for a quarter of
  the slots at a time. So for slot `n` of row `r` column 0 holds the inner product with the key, column 1 the squared norm.
-/
module

public import proofs.«01_k».proof.Proof.Controller

@[expose] public section

set_option maxRecDepth 16384

noncomputable section

open Idealize.ShloMosaic Idealize.ShloMosaic.TcCoe Idealize.SL.Sem

namespace Cert.KernelIdeal.Block

open Cert.KernelIdeal Cert.KernelIdeal.Gen Cert.Head

variable (K : FVec Ideal S16x128 .f32) (mem : Vec Ideal S16x2048x128 .f32)

/-- The memory of row `r` of a block: its slots and their words. -/
def memory (r : Fin 16) (n : Fin 2048) (j : Fin 128) : EReal := mem (ix3 r n j)

/-- The selector's condition: row in the first half exactly when the column is the first. -/
theorem selector_bit : ∀ (k : Fin 256) (d : Fin 2),
    IntOp.xori (IntOp.xori (IntOp.cmpi .slt (BitVec.ofNat 32 k) 128#32) (IntOp.cmpi .eq (BitVec.ofNat 32 d) 0#32)) 1#1
      = if (k.val < 128) = (d.val = 0) then 1#1 else 0#1 := by
  decide +kernel

/-- The selector at a row and a column. -/
theorem selector_read (k : Fin 256) (d : Fin 2) : k0_pay15 (F := Ideal) (ix2 k d) = if (k.val < 128) = (d.val = 0) then 1 else 0 := by
  pointwise [k0_pay15]
  rw [selector_bit]
  split <;> rfl

/-- What the selector's matrix product leaves in column `d` for slot `n` of row `r`. -/
def halves (r : Fin 16) (n : Fin 2048) (d : Fin 2) : EReal :=
  ∑ j : Fin 128, mem (ix3 r n j) * K (ix2 r j) * k0_pay15 (F := Ideal) (ix2 ⟨j, by omega⟩ d)
    + ∑ j : Fin 128, mem (ix3 r n j) * mem (ix3 r n j) * k0_pay15 (F := Ideal) (ix2 ⟨128 + j, by omega⟩ d)

/-- Column 0 is the inner product with the key. -/
theorem halves_zero (r : Fin 16) (n : Fin 2048) : halves K mem r n 0 = ∑ j, memory mem r n j * K (ix2 r j) := by
  simp [halves, selector_read, memory]

/-- Column 1 is the squared norm. -/
theorem halves_one (r : Fin 16) (n : Fin 2048) : halves K mem r n 1 = ∑ j, memory mem r n j * memory mem r n j := by
  simp [halves, selector_read, memory]

/-- The first quarter of the slots. -/
theorem quarter0 (r : Fin 16) (h : Fin 4) (d : Fin 2) (l : Fin 128) :
    k0_pay16 K mem (ix3 ⟨r * 4 + h, by omega⟩ d l) = halves K mem r ⟨h * 128 + l, by omega⟩ d := by
  pointwise [k0_pay16]
  show halves K mem r ⟨((r * 4 + h) * 128 + l) % 512, by omega⟩ d = _
  congr 1
  exact Fin.ext (show ((r.val * 4 + h.val) * 128 + l.val) % 512 = h.val * 128 + l.val by omega)

/-- The second quarter. -/
theorem quarter1 (r : Fin 16) (h : Fin 4) (d : Fin 2) (l : Fin 128) :
    k0_pay17 K mem (ix3 ⟨r * 4 + h, by omega⟩ d l) = halves K mem r ⟨512 + h * 128 + l, by omega⟩ d := by
  pointwise [k0_pay17]
  show halves K mem r ⟨512 + ((r * 4 + h) * 128 + l) % 512, by omega⟩ d = _
  congr 1
  exact Fin.ext (show 512 + ((r.val * 4 + h.val) * 128 + l.val) % 512 = 512 + h.val * 128 + l.val by omega)

/-- The third quarter. -/
theorem quarter2 (r : Fin 16) (h : Fin 4) (d : Fin 2) (l : Fin 128) :
    k0_pay20 k0_pay15 (k0_pay18 mem) (k0_pay19 K) (ix3 ⟨r * 4 + h, by omega⟩ d l) = halves K mem r ⟨1024 + h * 128 + l, by omega⟩ d := by
  pointwise [k0_pay20, k0_pay18, k0_pay19]
  show halves K mem r ⟨1024 + ((r * 4 + h) * 128 + l) % 512, by omega⟩ d = _
  congr 1
  exact Fin.ext (show 1024 + ((r.val * 4 + h.val) * 128 + l.val) % 512 = 1024 + h.val * 128 + l.val by omega)

/-- The fourth quarter. -/
theorem quarter3 (r : Fin 16) (h : Fin 4) (d : Fin 2) (l : Fin 128) :
    k0_pay21 K mem k0_pay15 (ix3 ⟨r * 4 + h, by omega⟩ d l) = halves K mem r ⟨1536 + h * 128 + l, by omega⟩ d := by
  pointwise [k0_pay21]
  show halves K mem r ⟨1536 + ((r * 4 + h) * 128 + l) % 512, by omega⟩ d = _
  congr 1
  exact Fin.ext (show 1536 + ((r.val * 4 + h.val) * 128 + l.val) % 512 = 1536 + h.val * 128 + l.val by omega)

/-- The four quarters set side by side, one column of each. -/
theorem join_quarters (r h : Fin 16) (d : Fin 2) (l : Fin 128) :
    (if h₁ : h.val < 4 then k0_pay16 K mem (ix3 ⟨r * 4 + h, by omega⟩ d l)
      else if h₂ : h.val - 4 < 4 then k0_pay17 K mem (ix3 ⟨r * 4 + (h - 4), by omega⟩ d l)
      else if h₃ : h.val - 4 - 4 < 4 then
        k0_pay20 k0_pay15 (k0_pay18 mem) (k0_pay19 K) (ix3 ⟨r * 4 + (h - 4 - 4), by omega⟩ d l)
      else k0_pay21 K mem k0_pay15 (ix3 ⟨r * 4 + (h - 4 - 4 - 4), by omega⟩ d l))
    = halves K mem r ⟨h * 128 + l, by omega⟩ d := by
  split_ifs with h₁ h₂ h₃
  · exact quarter0 K mem r ⟨h, h₁⟩ d l
  · refine (quarter1 K mem r ⟨h - 4, h₂⟩ d l).trans (congrArg (fun n => halves K mem r n d) (Fin.ext ?_))
    show 512 + (h.val - 4) * 128 + l.val = h.val * 128 + l.val
    omega
  · refine (quarter2 K mem r ⟨h - 4 - 4, h₃⟩ d l).trans (congrArg (fun n => halves K mem r n d) (Fin.ext ?_))
    show 1024 + (h.val - 4 - 4) * 128 + l.val = h.val * 128 + l.val
    omega
  · refine (quarter3 K mem r ⟨h - 4 - 4 - 4, by omega⟩ d l).trans (congrArg (fun n => halves K mem r n d) (Fin.ext ?_))
    show 1536 + (h.val - 4 - 4 - 4) * 128 + l.val = h.val * 128 + l.val
    omega

/-- The four quarters' first columns, set side by side. -/
theorem dot_read (z : Fin 1) (r h : Fin 16) (l : Fin 128) :
    k0_pay22 K mem k0_pay15 (k0_pay16 K mem) (k0_pay17 K mem) (k0_pay18 mem) (k0_pay19 K) (ix4 z r h l)
      = halves K mem r ⟨h * 128 + l, by omega⟩ 0 := by
  pointwise [k0_pay22]
  exact join_quarters K mem r h 0 l

/-- The four quarters' second columns, set side by side. -/
theorem square_read (z : Fin 1) (r h : Fin 16) (l : Fin 128) :
    k0_pay23 K mem k0_pay15 (k0_pay16 K mem) (k0_pay17 K mem) (k0_pay18 mem) (k0_pay19 K) (ix4 z r h l)
      = halves K mem r ⟨h * 128 + l, by omega⟩ 1 := by
  pointwise [k0_pay23]
  exact join_quarters K mem r h 1 l

end Cert.KernelIdeal.Block
-- ==== Proof.Weights.lean ====
/-
  THE NEW WEIGHTS OF A BLOCK: the body keeps the 2048 weights of a row as 16 lines of 128. Content weights and previous
  weights mixed by the gate, the shift by one slot either way, the power, and the division by the sum, each read at line
  `h` and lane `l` as the row's own formula at slot `128 h + l`.
-/
module

public import proofs.«01_k».proof.Proof.Products

@[expose] public section

set_option maxRecDepth 16384

noncomputable section

open Idealize.ShloMosaic Idealize.ShloMosaic.TcCoe Idealize.SL.Sem

namespace Cert.KernelIdeal.Block

open Cert.KernelIdeal Cert.KernelIdeal.Gen Cert.Head

variable (x : Vec Ideal S16x512 .f32) (W : Vec Ideal S134x512 .f32) (b : Vec Ideal S1x134 .f32)
  (mem : Vec Ideal S16x2048x128 .f32) (wp : Vec Ideal S16x16x128 .f32)

/-- The slot at line `h` and lane `l`. -/
def slot (h : Fin 16) (l : Fin 128) : Fin 2048 := ⟨h * 128 + l, by omega⟩

/-- A sum over lines and lanes is the sum over the slots. -/
theorem sum_slots (f : Fin 2048 → EReal) : ∑ h : Fin 16, ∑ l : Fin 128, f (slot h l) = ∑ n, f n := by
  rw [← Fintype.sum_prod_type' (f := fun h l => f (slot h l))]
  refine Fintype.sum_equiv (finProdFinEquiv (m := 16) (n := 128)) _ _ fun p => congrArg f (Fin.ext ?_)
  show p.1.val * 128 + p.2.val = p.2.val + 128 * p.1.val
  omega

/-- The previous weights of row `r`, by slot. -/
def previous (r : Fin 16) (n : Fin 2048) : EReal := wp (ix3 r ⟨n / 128, by omega⟩ ⟨n % 128, by omega⟩)

theorem previous_slot (r h : Fin 16) (l : Fin 128) : previous wp r (slot h l) = wp (ix3 r h l) := by
  have hd : (⟨(slot h l).val / 128, by omega⟩ : Fin 16) = h := Fin.ext (show (h.val * 128 + l.val) / 128 = h.val by omega)
  have hm : (⟨(slot h l).val % 128, by omega⟩ : Fin 128) = l := Fin.ext (show (h.val * 128 + l.val) % 128 = l.val by omega)
  rw [previous, hd, hm]

/-- The block's inner products, as the body's first column. -/
abbrev dots : FVec Ideal S1x16x16x128 .f32 :=
  k0_pay22 (k0_pay3 x W b) mem k0_pay15 (k0_pay16 (k0_pay3 x W b) mem) (k0_pay17 (k0_pay3 x W b) mem) (k0_pay18 mem) (k0_pay19 (k0_pay3 x W b))

/-- The block's squared norms, as the body's second column. -/
abbrev squares : FVec Ideal S1x16x16x128 .f32 :=
  k0_pay23 (k0_pay3 x W b) mem k0_pay15 (k0_pay16 (k0_pay3 x W b) mem) (k0_pay17 (k0_pay3 x W b) mem) (k0_pay18 mem) (k0_pay19 (k0_pay3 x W b))

/-- The logit, from the columns. -/
theorem logit_read (r h : Fin 16) (l : Fin 128) :
    k0_pay4 x W b (ix2 r 0) * Ideal.div (dots x W b mem (ix4 0 r h l))
        (Ideal.sqrt (squares x W b mem (ix4 0 r h l)) * k0_pay14 (k0_pay3 x W b) (ix2 r 0) + Ideal.ofBits .f32 841731191#32)
      = logit (outputs x W b r) (memory mem r) (slot h l) := by
  rw [sharpness_read, dots, dot_read, squares, square_read, halves_zero, halves_one, keyNorm_read]
  simp only [key_read]
  rfl

/-- The gated weights. -/
theorem gated_read (r h : Fin 16) (l : Fin 128) :
    k0_pay24 (k0_pay4 x W b) (k0_pay5 x W b) (k0_pay14 (k0_pay3 x W b)) (dots x W b mem) (squares x W b mem) wp (ix3 r h l)
      = gated (outputs x W b r) (previous wp r) (content (logit (outputs x W b r) (memory mem r))) (slot h l) := by
  generalize hD : dots x W b mem = D
  generalize hN : squares x W b mem = N
  pointwise [k0_pay24]
  subst hD hN
  simp only [logit_read, gate_read]
  rw [sum_slots fun n => Ideal.exp (logit (outputs x W b r) (memory mem r) n), gated, previous_slot]
  rfl

/-- Shifted by one slot towards the end: each place holds its predecessor's weight. -/
theorem before_read (v22 v24 v57 D N) (g : Fin 16 → Fin 2048 → EReal)
    (hg : ∀ r h l, k0_pay24 (F := Ideal) v22 v24 v57 D N wp (ix3 r h l) = g r (slot h l)) (r h : Fin 16) (l : Fin 128) :
    k0_pay25 v22 v24 v57 D N wp (ix3 r h l) = g r (before (slot h l)) := by
  pointwise [k0_pay25]
  simp only [hg]
  split_ifs with h₁ h₂ <;> refine congrArg (g r) (Fin.ext ?_) <;> simp only [slot, before] <;> omega

/-- Shifted by one slot towards the start: each place holds its successor's weight. -/
theorem after_read (v22 v24 v57 D N) (g : Fin 16 → Fin 2048 → EReal)
    (hg : ∀ r h l, k0_pay24 (F := Ideal) v22 v24 v57 D N wp (ix3 r h l) = g r (slot h l)) (r h : Fin 16) (l : Fin 128) :
    k0_pay26 v22 v24 v57 D N wp (ix3 r h l) = g r (after (slot h l)) := by
  pointwise [k0_pay26]
  simp only [hg]
  split_ifs with h₁ h₂ <;> refine congrArg (g r) (Fin.ext ?_) <;> simp only [slot, after] <;> omega

/-- The last operations of the weights: shift weights times the three shifted copies, the power, the division by the
    sum, and the sixteen lines set side by side in one row of 2048. -/
theorem normalised_read (s : FVec Ideal S16x3 .f32) (e : FVec Ideal S16x1 .f32) (w₀ w₁ w₂ : FVec Ideal S16x16x128 .f32)
    (u : Fin 16 → Fin 2048 → EReal)
    (hu : ∀ r h l, Ideal.pow (s (ix2 r 0) * w₀ (ix3 r h l) + s (ix2 r 1) * w₁ (ix3 r h l) + s (ix2 r 2) * w₂ (ix3 r h l)) (e (ix2 r 0)) = u r (slot h l))
    (r : Fin 16) (n : Fin 2048) :
    k0_pay29 s e w₁ w₀ w₂ (k0_pay27 s) (k0_pay28 s) (ix2 r n) = Ideal.div (u r n) ((∑ k, u r k) + tiny) := by
  unfold k0_pay29
  dsimp only
  generalize hw : divf (F := Ideal) (s := S16x16x128) _ _ = w
  have hread : ∀ h l, w (ix3 r h l) = Ideal.div (u r (slot h l)) ((∑ k, u r k) + tiny) := by
    intro h l
    subst hw
    pointwise [k0_pay27, k0_pay28]
    simp only [hu]
    rw [sum_slots (u r)]
    rfl
  have hn : slot ⟨n / 128, by omega⟩ ⟨n % 128, by omega⟩ = n := Fin.ext (show n.val / 128 * 128 + n.val % 128 = n.val by omega)
  have hs : ∀ h : Fin 16, S16x16x128.Slices ![0, h.val, 0] S16x1x128 := by decide
  refine (concatenate_ofFn_apply (t := S16x2048) (s₁ := S16x128) 1 (fun h : Fin 16 => shapeCast S16x128
    (extractStridedSlice S16x1x128 ![0, h.val, 0] w (hs h)) shapeCasts_S16x1x128_S16x128) _ rfl 128 rfl (ix2 r n)
    ⟨n / 128, by omega⟩ rfl (ix2 r ⟨n % 128, by omega⟩) rfl ?_).trans ?_
  · intro a ha
    fin_cases a
    · rfl
    · exact absurd rfl ha
  · pointwise
    exact (hread _ _).trans (by rw [hn])

/-- The weights the body stores, as it computes them from its five input blocks. -/
abbrev newWeights : FVec Ideal S16x2048 .f32 :=
  k0_pay29 (k0_pay6 x W b) (k0_pay13 (k0_pay8 x W b) (k0_pay10 x W b) (k0_pay11 x W b) (k0_pay12 x W b))
    (k0_pay24 (k0_pay4 x W b) (k0_pay5 x W b) (k0_pay14 (k0_pay3 x W b)) (dots x W b mem) (squares x W b mem) wp)
    (k0_pay25 (k0_pay4 x W b) (k0_pay5 x W b) (k0_pay14 (k0_pay3 x W b)) (dots x W b mem) (squares x W b mem) wp)
    (k0_pay26 (k0_pay4 x W b) (k0_pay5 x W b) (k0_pay14 (k0_pay3 x W b)) (dots x W b mem) (squares x W b mem) wp)
    (k0_pay27 (k0_pay6 x W b)) (k0_pay28 (k0_pay6 x W b))

/-- They are the row's new weights, with content weights by plain softmax. -/
theorem newWeights_read (r : Fin 16) (n : Fin 2048) :
    newWeights x W b mem wp (ix2 r n)
      = weights (outputs x W b r) (previous wp r) (content (logit (outputs x W b r) (memory mem r))) n := by
  refine normalised_read _ _ _ _ _ (fun r => sharpened (outputs x W b r) (previous wp r) (content (logit (outputs x W b r) (memory mem r))))
    (fun r h l => ?_) r n
  rw [shifts_read, shifts_read, shifts_read, exponent_read,
    before_read wp _ _ _ _ _ _ (gated_read x W b mem wp), gated_read, after_read wp _ _ _ _ _ _ (gated_read x W b mem wp)]
  rfl

end Cert.KernelIdeal.Block
-- ==== Proof.ReadOut.lean ====
/-
  THE VECTORS A BLOCK READS: the body lays sixteen copies of the weights side by side, keeps in row `r` only the `r`-th
  copy, and multiplies by the sixteen rows' memories stacked. All but the row's own memory meets a zero weight.
-/
module

public import proofs.«01_k».proof.Proof.Weights
public import Idealize.ShloMosaic.Lib.Routing.Words
public import Idealize.ShloMosaic.Lib.WordArith

@[expose] public section

set_option maxRecDepth 16384

noncomputable section

open Idealize.ShloMosaic Idealize.ShloMosaic.TcCoe Idealize.SL.Sem

namespace Cert.KernelIdeal.Block

open Cert.KernelIdeal Cert.KernelIdeal.Gen Cert.Head

/-- The quotient of a lane by 2048, as the body computes it (rounding towards minus infinity), is the natural one. -/
theorem copy_of_lane {n : ℕ} (hn : n < 32768) :
    Scalar.select
        (IntOp.andi
          (IntOp.cmpi .ne
            (IntOp.subi (BitVec.setWidth 32 (IntOp.cmpi .sgt (BitVec.ofNat 32 n) 0#32))
              (BitVec.setWidth 32 (IntOp.cmpi .slt (BitVec.ofNat 32 n) 0#32)))
            (Scalar.subi (Scalar.extui (Scalar.cmpi .sgt 2048#32 0#32)) (Scalar.extui (Scalar.cmpi .slt 2048#32 0#32))))
          (IntOp.cmpi .ne (IntOp.remsi .vector (BitVec.ofNat 32 n) 2048#32) 0#32))
        (IntOp.subi (IntOp.divsi .vector (BitVec.ofNat 32 n) 2048#32) 1#32)
        (IntOp.divsi .vector (BitVec.ofNat 32 n) 2048#32)
      = BitVec.ofNat 32 (n / 2048) := by
  have hd : IntOp.divsi .vector (BitVec.ofNat 32 n) 2048#32 = BitVec.ofNat 32 (n / 2048) :=
    Routing.divsi_word .vector (b := 2048) (by omega) (by omega) (by omega)
  have hm : IntOp.remsi .vector (BitVec.ofNat 32 n) 2048#32 = BitVec.ofNat 32 (n % 2048) :=
    Routing.remsi_word .vector (b := 2048) (by omega) (by omega) (by omega)
  have hi := WordArith.toInt_ofNat_small n (by omega)
  rw [hd, hm]
  rcases Nat.eq_zero_or_pos n with rfl | h
  · rfl
  · have h₁ : IntOp.cmpi .sgt (BitVec.ofNat 32 n) 0#32 = 1#1 := by
      have : (0#32).slt (BitVec.ofNat 32 n) = true := by
        rw [BitVec.slt, hi]; simpa using h
      simp [IntOp.cmpi, this]
    have h₂ : IntOp.cmpi .slt (BitVec.ofNat 32 n) 0#32 = 0#1 := by
      have : (BitVec.ofNat 32 n).slt 0#32 = false := by
        rw [BitVec.slt, hi]; simp
      simp [IntOp.cmpi, this]
    have h₃ : IntOp.cmpi .ne (IntOp.subi (BitVec.setWidth 32 1#1) (BitVec.setWidth 32 0#1))
        (Scalar.subi (Scalar.extui (Scalar.cmpi .sgt 2048#32 0#32)) (Scalar.extui (Scalar.cmpi .slt 2048#32 0#32))) = 0#1 := by
      decide
    have h₄ : ∀ y : BitVec 1, IntOp.andi 0#1 y = 0#1 := by decide
    rw [h₁, h₂, h₃, h₄]
    rfl

/-- Two small numbers' words are equal exactly when the numbers are. -/
theorem same_word {a c : ℕ} (ha : a < 2 ^ 32) (hc : c < 2 ^ 32) :
    IntOp.cmpi .eq (BitVec.ofNat 32 a) (BitVec.ofNat 32 c) = if a = c then 1#1 else 0#1 := by
  by_cases h : a = c
  · simp [IntOp.cmpi, h]
  · have : BitVec.ofNat 32 a ≠ BitVec.ofNat 32 c := fun e => h (by
      have := congrArg BitVec.toNat e
      rwa [BitVec.toNat_ofNat, BitVec.toNat_ofNat, Nat.mod_eq_of_lt ha, Nat.mod_eq_of_lt hc] at this)
    rw [if_neg h]
    show BitVec.ofBool (BitVec.ofNat 32 a == BitVec.ofNat 32 c) = 0#1
    rw [beq_false_of_ne this]
    rfl

/-- A sum over sixteen rows' stacked slots, row by row. -/
theorem sum_stacked (f : Fin 32768 → EReal) :
    ∑ k, f k = ∑ p : Fin 16, ∑ n : Fin 2048, f ⟨p * 2048 + n, by omega⟩ := by
  rw [← Fintype.sum_prod_type' (f := fun (p : Fin 16) (n : Fin 2048) => f ⟨p * 2048 + n, by omega⟩)]
  refine (Fintype.sum_equiv (finProdFinEquiv (m := 16) (n := 2048)) _ _ fun p => congrArg f (Fin.ext ?_)).symm
  show p.1.val * 2048 + p.2.val = p.2.val + 2048 * p.1.val
  omega

variable (mem : Vec Ideal S16x2048x128 .f32) (w : FVec Ideal S16x2048 .f32)

/-- The masked product is each row's own weighted average of its slots. -/
theorem read_read (r : Fin 16) (j : Fin 128) :
    k0_pay1 mem w (ix2 r j) = read (memory mem r) (fun n => w (ix2 r n)) j := by
  unfold k0_pay1
  dsimp only
  generalize hc : concatenate (α := Ideal .f32) S16x32768 1 _ _ = c
  pointwise
  have hcopy : ∀ (p : Fin 16) (n : Fin 2048), c (ix2 r ⟨p * 2048 + n, by omega⟩) = w (ix2 r n) := by
    intro p n
    subst hc
    refine concatenate_ofFn_apply (t := S16x32768) (s₁ := S16x2048) 1 (fun _ : Fin 16 => w) _ rfl 2048 rfl
      (ix2 r ⟨p * 2048 + n, by omega⟩) p ?_ (ix2 r n) ?_ ?_
    · show (p.val * 2048 + n.val) / 2048 = p.val
      omega
    · show n.val = (p.val * 2048 + n.val) % 2048
      omega
    · intro a ha
      fin_cases a
      · rfl
      · exact absurd rfl ha
  rw [sum_stacked, Finset.sum_eq_single r]
  · refine Finset.sum_congr rfl fun n _ => ?_
    rw [copy_of_lane (by omega), same_word (by omega) (by omega), if_pos (by dsimp only; omega), hcopy]
    show w (ix2 r n) * mem (ix3 _ _ j) = w (ix2 r n) * mem (ix3 r n j)
    have hp : (⟨(r.val * 2048 + n.val) / 2048, by omega⟩ : Fin 16) = r := Fin.ext (show (r.val * 2048 + n.val) / 2048 = r.val by omega)
    have hq : (⟨(r.val * 2048 + n.val) % 2048, by omega⟩ : Fin 2048) = n := Fin.ext (show (r.val * 2048 + n.val) % 2048 = n.val by omega)
    rw [hp, hq]
  · intro p _ hp
    refine Finset.sum_eq_zero fun n _ => ?_
    rw [copy_of_lane (by omega), same_word (by omega) (by omega), if_neg (fun h => hp (Fin.ext (by dsimp only at h; omega)))]
    rfl
  · exact fun h => absurd (Finset.mem_univ r) h

end Cert.KernelIdeal.Block
-- ==== Proof.Answer.lean ====
/-
  THE ANSWER: the two results as functions of the five arguments, row by row. Row `r` uses its own controller outputs,
  its own memory and its own previous weights; the content weights are the plain softmax of its logits.
-/
module

public import proofs.«01_k».proof.Proof.Row

@[expose] public section

noncomputable section

open Idealize.ShloMosaic

namespace Cert.Head

variable (x : (⟨2, ![1024, 512]⟩ : Shape).Idx → EReal) (wp : (⟨2, ![1024, 2048]⟩ : Shape).Idx → EReal)
  (mem : (⟨3, ![1024, 2048, 128]⟩ : Shape).Idx → EReal) (W : (⟨2, ![134, 512]⟩ : Shape).Idx → EReal)
  (b : (⟨1, ![134]⟩ : Shape).Idx → EReal)

/-- The controller's outputs for row `r`. -/
def controller (r : Fin 1024) (q : Fin 134) : EReal := ∑ k : Fin 512, x (ix2 r k) * W (ix2 q k) + b (ix1 q)

/-- The memory of row `r`. -/
def slots (r : Fin 1024) (n : Fin 2048) (j : Fin 128) : EReal := mem (ix3 r n j)

/-- The previous weights of row `r`. -/
def prior (r : Fin 1024) (n : Fin 2048) : EReal := wp (ix2 r n)

/-- The new weights of row `r`. -/
def rowWeights (r : Fin 1024) (n : Fin 2048) : EReal :=
  weights (controller x W b r) (prior wp r) (content (logit (controller x W b r) (slots mem r))) n

/-- The new weights, the second result. -/
def answerWeights : (⟨2, ![1024, 2048]⟩ : Shape).Idx → EReal := fun y => rowWeights x wp mem W b (y 0) (y 1)

/-- The vectors read, the first result. -/
def answerRead : (⟨2, ![1024, 128]⟩ : Shape).Idx → EReal :=
  fun y => read (slots mem (y 0)) (rowWeights x wp mem W b (y 0)) (y 1)

end Cert.Head
-- ==== Proof.Arrays.lean ====
/-
  THE FINAL ARRAYS: block `t` holds rows `16 t` to `16 t + 15` of every array that has rows, and all of the controller's
  weights and biases. What the body leaves in its two output blocks is then the answer's rows, and the blocks tile the
  two result arrays.
-/
module

public import proofs.«01_k».proof.Proof.Gen.KernelIdeal.Frame
public import proofs.«01_k».proof.Proof.ReadOut
public import proofs.«01_k».proof.Proof.Answer
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Block Cert.Head

variable (m : (ℓ : Loc nD τ sig) → Buf (Elt Ideal) ℓ)

/-- Which block of its array each window holds at grid point `t`. -/
theorem index_closed : ∀ t : Fin cfg0.N, win0_0.index t = ![t.val, 0] ∧ win0_1.index t = ![t.val, 0, 0] ∧ win0_2.index t = ![0, 0]
    ∧ win0_3.index t = ![0, 0] ∧ win0_4.index t = ![t.val, 0, 0] ∧ win0_5.index t = ![t.val, 0] ∧ win0_6.index t = ![t.val, 0] :=
  (by decide +kernel : ∀ t : Fin grid0.N, _)

/-- Row `r` of block `t`, as a row of the whole arrays. -/
def rowOf (t : Fin cfg0.N) (r : Fin 16) : Fin 1024 :=
  ⟨t.val * 16 + r.val, by have := t.isLt; have h : cfg0.N = 64 := rfl; omega⟩

/-- What the body leaves in the block of weights. -/
theorem left_weights (c : Dev nD) (t : Fin cfg0.N) (y : S16x2048.Idx) :
    (outsAt0 m c t).2 y = newWeights (iblk m c 0 t) (iblk m c 2 t) (iblk m c 3 t) (iblk m c 4 t) (iblk m c 1 t) y := by
  unfold outsAt0
  dsimp only
  frame_open
  simp (disch := decide) only [↓ View.readCov_skip, ↓ View.readCov_cons_toLoadRect, ↓ View.readCov_fill]
  frame_out

/-- What the body leaves in the block of vectors read. -/
theorem left_read (c : Dev nD) (t : Fin cfg0.N) (y : S16x128.Idx) :
    (outsAt0 m c t).1 y
      = k0_pay1 (iblk m c 4 t) (newWeights (iblk m c 0 t) (iblk m c 2 t) (iblk m c 3 t) (iblk m c 4 t) (iblk m c 1 t)) y := by
  unfold outsAt0
  dsimp only
  frame_open
  simp (disch := decide) only [↓ View.readCov_skip, ↓ View.readCov_cons_toLoadRect, ↓ View.readCov_fill]
  frame_out

/-- The block's controller outputs are the answer's, row by row. -/
theorem outputs_block (c : Dev nD) (t : Fin cfg0.N) (r : Fin 16) (q : Fin 134) :
    outputs (iblk m c 0 t) (iblk m c 2 t) (iblk m c 3 t) r q
      = controller (m ((c.tc : Thread nD τ).loc main_arg0)) (m ((c.tc : Thread nD τ).loc main_arg3)) (m ((c.tc : Thread nD τ).loc main_arg4)) (rowOf t r) q := by
  unfold outputs controller rowOf
  blk_point [iblk, V, index_closed t]

/-- The block's memory is the answer's. -/
theorem memory_block (c : Dev nD) (t : Fin cfg0.N) (r : Fin 16) (n : Fin 2048) (j : Fin 128) :
    memory (iblk m c 4 t) r n j = slots (m ((c.tc : Thread nD τ).loc main_arg2)) (rowOf t r) n j := by
  unfold memory slots rowOf
  blk_point [iblk, V, index_closed t]

/-- The block's previous weights are the answer's. -/
theorem previous_block (c : Dev nD) (t : Fin cfg0.N) (r : Fin 16) (n : Fin 2048) :
    previous (iblk m c 1 t) r n = prior (m ((c.tc : Thread nD τ).loc main_arg1)) (rowOf t r) n := by
  unfold previous prior rowOf
  blk_point [iblk, V, index_closed t]

/-- The new weights of the answer, on device `c`'s arguments. -/
abbrev finalWeights (c : Dev nD) : Fin 1024 → Fin 2048 → EReal :=
  rowWeights (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- Row `r` of block `t` of the weights is row `16 t + r` of the answer. -/
theorem weights_block (c : Dev nD) (t : Fin cfg0.N) (r : Fin 16) (n : Fin 2048) :
    newWeights (iblk m c 0 t) (iblk m c 2 t) (iblk m c 3 t) (iblk m c 4 t) (iblk m c 1 t) (ix2 r n) = finalWeights m c (rowOf t r) n := by
  have ho := funext (outputs_block m c t r)
  have hM : memory (iblk m c 4 t) r = _ := funext fun n => funext (memory_block m c t r n)
  have hw := funext (previous_block m c t r)
  refine (newWeights_read _ _ _ _ _ r n).trans ?_
  rw [ho, hM, hw]
  rfl

/-- Row `r` of block `t` of the vectors read is row `16 t + r` of the answer. -/
theorem read_block (c : Dev nD) (t : Fin cfg0.N) (r : Fin 16) (j : Fin 128) :
    k0_pay1 (iblk m c 4 t) (newWeights (iblk m c 0 t) (iblk m c 2 t) (iblk m c 3 t) (iblk m c 4 t) (iblk m c 1 t)) (ix2 r j)
      = read (slots (m ((c.tc : Thread nD τ).loc main_arg2)) (rowOf t r)) (finalWeights m c (rowOf t r)) j := by
  have hM : memory (iblk m c 4 t) r = _ := funext fun n => funext (memory_block m c t r n)
  have hw := funext (weights_block m c t r)
  refine (read_read _ _ r j).trans ?_
  rw [hM, hw]

/-- Where an entry of block `t` of the weights lies in the array. -/
theorem place_weights (t : Fin cfg0.N) (r : Fin 16) (n : Fin 2048) :
    ((View.whole main_v2_1).slice (win0_6.rect t)).emb (ix2 r n) = ix2 (rowOf t r) n := by
  unfold rowOf
  blk_ext [index_closed t]

/-- Where an entry of block `t` of the vectors read lies in the array. -/
theorem place_read (t : Fin cfg0.N) (r : Fin 16) (j : Fin 128) :
    ((View.whole main_v2_0).slice (win0_5.rect t)).emb (ix2 r j) = ix2 (rowOf t r) j := by
  unfold rowOf
  blk_ext [index_closed t]

/-- The second result, after the run. -/
theorem final_weights (c : Dev nD) :
    (dats m 0 c).arrAt 6 cfg0.N
      = answerWeights (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 6 _ (by decide +kernel) fun t hf y => ?_
  blk_simp
  rw [after0_6, left_weights]
  idx_vars y
  exact (weights_block m c t y0 y1).trans (congrArg (answerWeights _ _ _ _ _) (place_weights t y0 y1)).symm

/-- The first result, after the run. -/
theorem final_read (c : Dev nD) :
    (dats m 0 c).arrAt 5 cfg0.N
      = answerRead (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (dats m 0 c).arrAt_eq_of_covers 5 _ (by decide +kernel) fun t hf y => ?_
  blk_simp
  rw [after0_5, left_read]
  idx_vars y
  exact (read_block m c t y0 y1).trans (congrArg (answerRead _ _ _ _ _) (place_read t y0 y1)).symm

end Cert.KernelIdeal.Arrays
-- ==== Proof.Softmax.lean ====
/-
  THE TWO SOFTMAXES AGREE when no logit is `+∞`: subtracting the largest logit multiplies every exponential, and so
  their sum, by one positive real number. (At a logit `+∞` they differ, so the condition cannot be dropped here.)
-/
module

public import proofs.«01_k».proof.Proof.Row

@[expose] public section

noncomputable section

open Idealize.ShloMosaic

namespace Cert.Head

/-- The starting value of a maximum is `-∞`. -/
theorem floorValue_eq : floorValue = ⊥ := by
  simp [floorValue, Ideal.ofBits, Ideal.ieee]

/-- The largest entry of a family is its supremum. -/
theorem largest_eq {n : ℕ} (z : Fin n → EReal) : largest z = Finset.univ.sup z := by
  rw [largest, floorValue_eq, max_eq_right bot_le]; rfl

/-- An exponential of something below `+∞` is a real number, namely this one. -/
def realExp (x : EReal) : ℝ := if x = ⊥ then 0 else Real.exp x.toReal

theorem exp_bot : Ideal.exp ⊥ = 0 := rfl

theorem exp_coe (r : ℝ) : Ideal.exp r = (Real.exp r : EReal) := rfl

theorem exp_eq_realExp {x : EReal} (h : x < ⊤) : Ideal.exp x = (realExp x : EReal) := by
  induction x with
  | bot => simp [exp_bot, realExp]
  | top => exact absurd h (lt_irrefl _)
  | coe r => simp [exp_coe, realExp]

/-- Subtracting a real number from the exponent divides the exponential by that number's exponential. -/
theorem exp_sub_real {x : EReal} (h : x < ⊤) (c : ℝ) : Ideal.exp (x - c) = ((realExp x * Real.exp (-c) : ℝ) : EReal) := by
  induction x with
  | bot => simp [exp_bot, realExp]
  | top => exact absurd h (lt_irrefl _)
  | coe r =>
    rw [← EReal.coe_sub, exp_coe, sub_eq_add_neg, Real.exp_add]
    simp [realExp]

theorem realExp_nonneg (x : EReal) : 0 ≤ realExp x := by
  unfold realExp; split <;> positivity

theorem realExp_pos {x : EReal} (h : x ≠ ⊥) : 0 < realExp x := by
  rw [realExp, if_neg h]; positivity

/-- A finite sum of real numbers, summed as extended reals. -/
theorem sum_coe {ι : Type} (s : Finset ι) (f : ι → ℝ) : ∑ k ∈ s, (f k : EReal) = ((∑ k ∈ s, f k : ℝ) : EReal) := by
  induction s using Finset.cons_induction with
  | empty => simp
  | cons a s ha ih => rw [Finset.sum_cons, Finset.sum_cons, ih, EReal.coe_add]

/-- Division of real numbers by a nonzero one. -/
theorem div_coe {x y : ℝ} (h : y ≠ 0) : Ideal.div x y = ((x / y : ℝ) : EReal) := by
  rw [Ideal.div, if_neg (by exact_mod_cast h), ← EReal.coe_inv, ← EReal.coe_mul, div_eq_mul_inv]

/-- The softmax with the shift and the one without are the same function where no logit is `+∞`. -/
theorem contentStable_eq_content {n : ℕ} (z : Fin n → EReal) (hz : ∀ i, z i < ⊤) : contentStable z = content z := by
  funext i
  unfold contentStable content
  have hsup : largest z < ⊤ := by
    rw [largest_eq, Finset.sup_lt_iff (by exact bot_lt_top)]
    exact fun k _ => hz k
  have hle : ∀ k, z k ≤ largest z := fun k => by
    rw [largest_eq]; exact Finset.le_sup (Finset.mem_univ k)
  by_cases hb : largest z = ⊥
  · have hk : ∀ k, z k = ⊥ := fun k => le_bot_iff.mp (hb ▸ hle k)
    simp [hk, hb]
  · obtain ⟨c, hc⟩ : ∃ c : ℝ, largest z = c := ⟨(largest z).toReal, (EReal.coe_toReal hsup.ne hb).symm⟩
    have hpos : 0 < ∑ k, realExp (z k) := by
      have : ∃ k, z k ≠ ⊥ := by
        by_contra hn
        push Not at hn
        exact hb (by rw [largest_eq]; exact le_bot_iff.mp (Finset.sup_le fun k _ => (hn k).le))
      obtain ⟨k, hk⟩ := this
      exact Finset.sum_pos' (fun k _ => realExp_nonneg _) ⟨k, Finset.mem_univ k, realExp_pos hk⟩
    have e := Real.exp_pos (-c)
    simp only [hc, exp_sub_real (hz _), exp_eq_realExp (hz _), sum_coe, ← Finset.sum_mul]
    rw [div_coe (mul_pos hpos e).ne', div_coe hpos.ne', mul_div_mul_right _ _ e.ne']

/-- Where some logit is `+∞` the two differ: the softmax without the shift is `0` there, the one with it `-∞`. -/
theorem contentStable_ne_content {n : ℕ} (z : Fin n → EReal) {i : Fin n} (hi : z i = ⊤) : content z i = 0 ∧ contentStable z i = ⊥ := by
  have hsup : largest z = ⊤ := by
    rw [largest_eq]; exact top_le_iff.1 (hi ▸ Finset.le_sup (f := z) (Finset.mem_univ i))
  have nonneg : ∀ x : EReal, 0 ≤ Ideal.exp x := fun x => by
    induction x with
    | bot => exact le_refl _
    | top => exact (le_top : (0 : EReal) ≤ ⊤)
    | coe r => rw [exp_coe]; exact_mod_cast (Real.exp_pos r).le
  have htop : ∑ k, Ideal.exp (z k) = ⊤ :=
    top_le_iff.1 (le_of_eq_of_le (by rw [hi]; rfl)
      (Finset.single_le_sum (f := fun k => Ideal.exp (z k)) (fun k _ => nonneg _) (Finset.mem_univ i)))
  constructor
  · rw [content, htop, Ideal.div, if_neg (by decide), EReal.inv_top, mul_zero]
  · simp [contentStable, hsup, EReal.sub_top, exp_bot, Ideal.div]

end Cert.Head
-- ==== Proof.Finite.lean ====
/-
  NO LOGIT IS `+∞` when the sharpness' own logit is not: a similarity is always a real number (zero wherever a norm is
  zero or infinite), and the sharpness is then a nonnegative real number.
-/
module

public import proofs.«01_k».proof.Proof.Softmax

@[expose] public section

noncomputable section

open Idealize.ShloMosaic

namespace Cert.Head

/-- `eps` is a positive real number. -/
theorem eps_real : ∃ e : ℝ, 0 < e ∧ eps = e := by
  refine ⟨_, ?_, rfl⟩
  norm_num
  rw [if_neg (by decide)]
  positivity

/-- A square is not negative. -/
theorem square_nonneg (x : EReal) : 0 ≤ x * x := by
  rcases le_total 0 x with h | h
  · exact mul_nonneg h h
  · have : 0 ≤ -x := by simpa using EReal.neg_le_neg_iff.mpr h
    simpa using mul_nonneg this this

theorem sqrt_coe (r : ℝ) (h : 0 ≤ r) : Ideal.sqrt r = (Real.sqrt r : EReal) := by
  show (if r < 0 then ⊥ else ((Real.sqrt r : ℝ) : EReal)) = _
  rw [if_neg (not_lt.mpr h)]

theorem sqrt_top : Ideal.sqrt ⊤ = ⊤ := rfl

/-- Of a word, either every entry is a real number, and so is its norm, or its norm is `+∞`. -/
theorem norm_cases (v : Fin 128 → EReal) :
    (∃ r : Fin 128 → ℝ, (∀ j, v j = r j) ∧ norm v = (Real.sqrt (∑ j, r j * r j) : EReal)) ∨ norm v = ⊤ := by
  by_cases h : ∀ j, v j ≠ ⊥ ∧ v j ≠ ⊤
  · refine .inl ⟨fun j => (v j).toReal, fun j => (EReal.coe_toReal (h j).2 (h j).1).symm, ?_⟩
    have e : ∀ j, v j * v j = (((v j).toReal * (v j).toReal : ℝ) : EReal) := fun j => by
      rw [EReal.coe_mul, EReal.coe_toReal (h j).2 (h j).1]
    rw [norm, Finset.sum_congr rfl fun j _ => e j, sum_coe, sqrt_coe _ (Finset.sum_nonneg fun j _ => mul_self_nonneg _)]
  · right
    push Not at h
    obtain ⟨j, hj⟩ := h
    have hv : v j * v j = ⊤ := by
      by_cases hb : v j = ⊥
      · rw [hb]; rfl
      · rw [hj hb]; rfl
    have hs : ∑ k, v k * v k = ⊤ := by
      refine le_antisymm le_top ?_
      rw [← hv]
      exact Finset.single_le_sum (f := fun k => v k * v k) (fun k _ => square_nonneg _) (Finset.mem_univ j)
    rw [norm, hs, sqrt_top]

/-- A norm that is zero belongs to a word of zeros. -/
theorem eq_zero_of_norm {r : Fin 128 → ℝ} (h : Real.sqrt (∑ j, r j * r j) = 0) (j : Fin 128) : r j = 0 := by
  have h0 : ∑ j, r j * r j = 0 := by
    rwa [Real.sqrt_eq_zero (Finset.sum_nonneg fun j _ => mul_self_nonneg _)] at h
  exact mul_self_eq_zero.mp ((Finset.sum_eq_zero_iff_of_nonneg fun j _ => mul_self_nonneg _).mp h0 j (Finset.mem_univ j))

theorem div_top (x : EReal) : Ideal.div x ⊤ = 0 := by
  rw [Ideal.div, if_neg (by decide), EReal.inv_top, mul_zero]

theorem zero_div_real {e : ℝ} (h : 0 < e) : Ideal.div 0 e = 0 := by
  rw [Ideal.div, if_neg (by exact_mod_cast h.ne'), zero_mul]

/-- The cosine similarity of two words, with `eps` in its denominator, is a real number whatever the words hold. -/
theorem similarity_real (u v : Fin 128 → EReal) : ∃ s : ℝ, Ideal.div (∑ j, u j * v j) (norm u * norm v + eps) = s := by
  obtain ⟨e, he, hE⟩ := eps_real
  rw [hE]
  rcases norm_cases u with ⟨p, hp, hu⟩ | hu <;> rcases norm_cases v with ⟨q, hq, hv⟩ | hv
  · have hn : 0 < Real.sqrt (∑ j, p j * p j) * Real.sqrt (∑ j, q j * q j) + e := by positivity
    refine ⟨(∑ j, p j * q j) / (Real.sqrt (∑ j, p j * p j) * Real.sqrt (∑ j, q j * q j) + e), ?_⟩
    rw [hu, hv, ← EReal.coe_mul, ← EReal.coe_add,
      Finset.sum_congr rfl fun j _ => (by rw [hp, hq, ← EReal.coe_mul] : u j * v j = ((p j * q j : ℝ) : EReal)), sum_coe,
      div_coe hn.ne']
  · refine ⟨0, ?_⟩
    rw [hu, hv]
    rcases (Real.sqrt_nonneg (∑ j, p j * p j)).eq_or_lt with h | h
    · rw [← h, Finset.sum_congr rfl fun j _ => (by rw [hp, eq_zero_of_norm h.symm j]; simp : u j * v j = 0)]
      simpa using zero_div_real he
    · rw [EReal.coe_mul_top_of_pos h, EReal.top_add_coe, div_top]; rfl
  · refine ⟨0, ?_⟩
    rw [hu, hv]
    rcases (Real.sqrt_nonneg (∑ j, q j * q j)).eq_or_lt with h | h
    · rw [← h, Finset.sum_congr rfl fun j _ => (by rw [hq, eq_zero_of_norm h.symm j]; simp : u j * v j = 0)]
      simpa using zero_div_real he
    · rw [EReal.top_mul_coe_of_pos h, EReal.top_add_coe, div_top]; rfl
  · refine ⟨0, ?_⟩
    rw [hu, hv, EReal.top_mul_top, EReal.top_add_coe, div_top]; rfl

/-- Below `+∞`, the softplus is a real number. -/
theorem softplus_real {z : EReal} (h : z < ⊤) : ∃ s : ℝ, softplus z = s := by
  induction z with
  | bot =>
    refine ⟨0, ?_⟩
    have : Ideal.log1p 0 = 0 := by
      show Ideal.log (1 + 0) = 0
      rw [add_zero]
      show ((if (1 : ℝ) ≤ 0 then ⊥ else ((Real.log 1 : ℝ) : EReal))) = 0
      norm_num
    simp [softplus, exp_bot, this]
  | top => exact absurd h (lt_irrefl _)
  | coe r =>
    refine ⟨max r 0 + Real.log (1 + Real.exp (-(max r (-r)))), ?_⟩
    have hpos : (0 : ℝ) < 1 + Real.exp (-(max r (-r))) := by positivity
    have e1 : (max (r : EReal) (-(r : EReal))) = ((max r (-r) : ℝ) : EReal) := by
      rw [← EReal.coe_neg]; exact (EReal.coe_strictMono.monotone.map_max).symm
    have e2 : max (r : EReal) 0 = ((max r 0 : ℝ) : EReal) := (EReal.coe_strictMono.monotone.map_max).symm
    have e3 : Ideal.log1p ((Real.exp (-(max r (-r))) : ℝ) : EReal) = ((Real.log (1 + Real.exp (-(max r (-r)))) : ℝ) : EReal) := by
      show (if 1 + Real.exp (-(max r (-r))) ≤ 0 then ⊥ else ((Real.log (1 + Real.exp (-(max r (-r)))) : ℝ) : EReal)) = _
      rw [if_neg (not_le.mpr hpos)]
    rw [softplus, e1, e2, ← EReal.coe_neg, exp_coe, e3, ← EReal.coe_add]

/-- No logit is `+∞` when the sharpness' logit, output 128 of the controller, is not. -/
theorem logit_lt_top {o : Fin 134 → EReal} (M : Fin 2048 → Fin 128 → EReal) (h : o 128 < ⊤) (n : Fin 2048) :
    logit o M n < ⊤ := by
  obtain ⟨s, hs⟩ := softplus_real h
  obtain ⟨c, hc⟩ := similarity_real (M n) (key o)
  rw [logit, sharpness, hs, similarity, hc, ← EReal.coe_mul]
  exact EReal.coe_lt_top _

end Cert.Head
-- ==== Proof.Rows.lean ====
/-
  THE REFERENCE, ROW BY ROW: each of its named stages read as the row's formula, up to the new weights and the vector
  read. Its content weights are the softmax with the largest logit subtracted.
-/
module

public import proofs.«01_k».proof.Proof.Gen.ReferenceIdeal.Run
public import proofs.«01_k».proof.Proof.Answer
public import proofs.«01_k».proof.Proof.Finite

@[expose] public section

set_option maxRecDepth 16384

noncomputable section

open Idealize.ShloMosaic Idealize.ShloMosaic.TcCoe Idealize.SL.Sem Idealize.ShloMosaic.StableHlo

namespace Cert.ReferenceIdeal.Rows

open Cert.ReferenceIdeal Cert.ReferenceIdeal.Gen Cert.ReferenceIdeal.Value Cert.Head

/-- A row maximum of the reference: the running maximum over the row. -/
theorem rowMax_read {n : ℕ} (X : FVec Ideal ⟨2, ![1024, n]⟩ .f32) (init : FVec Ideal S_ .f32) (h : (⟨2, ![1024, n]⟩ : Shape).ReducesTo [1] S1024)
    (r : Fin 1024) :
    Host.reduce FloatOps.maximumf X init h h_S_ (ix1 r) = Finset.univ.fold max (init ix0) fun k => X (ix2 r k) := by
  rw [Host.reduce_eq_fold]
  refine (Shape.ReducesTo.fold_fiber_r2_a1 h (ix1 r) FloatOps.maximumf _ X).trans ?_
  rw [show Shape.Idx.first h_S_ = ix0 from funext fun a => a.elim0]
  rfl

/-- The branch taken at an unordered value is never taken, and the rest is the softplus. -/
theorem softplus_form (z : EReal) :
    (if z ≠ z then z else max z 0 + Ideal.log1p (Ideal.exp (-(max z (-z))))) = softplus z := by
  rw [if_neg (by simp)]; rfl

variable (V : Valuation τ sig (Elt Ideal))

/-- The controller's outputs on the reference's arguments. -/
abbrev o : Fin 1024 → Fin 134 → EReal :=
  controller (V (Proc.devRef .tc main_arg0)) (V (Proc.devRef .tc main_arg3)) (V (Proc.devRef .tc main_arg4))

/-- The memory on the reference's arguments. -/
abbrev M : Fin 1024 → Fin 2048 → Fin 128 → EReal := slots (V (Proc.devRef .tc main_arg2))

/-- The previous weights on the reference's arguments. -/
abbrev w : Fin 1024 → Fin 2048 → EReal := prior (V (Proc.devRef .tc main_arg1))

theorem outputs_read (r : Fin 1024) (q : Fin 134) : res_main_v4 V (ix2 r q) = o V r q := by
  pointwise [res_main_v4]
  rfl

theorem key_read (r : Fin 1024) (d : Fin 128) : res_main_v5 V (ix2 r d) = key (o V r) d := by
  pointwise [res_main_v5]
  exact outputs_read V r _

theorem gate_read (r : Fin 1024) (q : Fin 1) : res_main_v14 V (ix2 r q) = gate (o V r) := by
  fin_vals q with hq
  pointwise [res_main_v14]
  rw [outputs_read]; rfl

theorem column_read (r : Fin 1024) (q : Fin 3) : res_main_v15 V (ix2 r q) = o V r ⟨130 + q, by omega⟩ := by
  pointwise [res_main_v15]
  exact outputs_read V r _

theorem shifts_read (r : Fin 1024) (q : Fin 3) : res_main_v26 V (ix2 r q) = shifts (o V r) q := by
  unfold res_main_v26 res_main_v22
  generalize hm : Host.reduce (α := Ideal .f32) FloatOps.maximumf _ _ _ _ = top
  pointwise
  subst hm
  rw [rowMax_read]
  simp only [column_read]
  rfl

theorem logit_read (r : Fin 1024) (n : Fin 2048) : res_main_v40 V (ix2 r n) = logit (o V r) (M V r) n := by
  pointwise [res_main_v40, res_main_call0_v3, res_main_v6, res_main_call0_cst]
  refine congrArg₂ (· * ·) ((softplus_form _).trans (by rw [outputs_read]; rfl)) ?_
  simp only [key_read]
  rfl

theorem gated_read (r : Fin 1024) (n : Fin 2048) :
    res_main_v58 V (ix2 r n) = gated (o V r) (w V r) (contentStable (logit (o V r) (M V r))) n := by
  unfold res_main_v58 res_main_v47
  generalize hm : Host.reduce (α := Ideal .f32) FloatOps.maximumf _ _ _ _ = top
  pointwise
  subst hm
  rw [rowMax_read]
  simp only [logit_read, gate_read]
  rfl

theorem sharpened_read (r : Fin 1024) (n : Fin 2048) :
    res_main_v73 V (ix2 r n) = sharpened (o V r) (w V r) (contentStable (logit (o V r) (M V r))) n := by
  pointwise [res_main_v73, res_main_call1_v3, res_main_v27, res_main_call1_cst]
  refine congrArg₂ Ideal.pow ?_ (congrArg (fun s : EReal => 1 + s) ((softplus_form _).trans (congrArg softplus (outputs_read V r 133))))
  simp only [gated_read, shifts_read]
  rw [shifted]
  congr 2
  · congr 1
    split_ifs with h <;> refine congrArg _ (Fin.ext ?_) <;> simp only [before] <;> omega
  · split_ifs with h <;> refine congrArg _ (Fin.ext ?_) <;> simp only [Head.after] <;> omega

/-- The reference's new weights. -/
theorem weights_read (r : Fin 1024) (n : Fin 2048) :
    Host.divf (res_main_v73 V) (broadcastInDim S1024x2048 ![0, 1] bcast_S1024x1_S1024x2048_0_1
      (addf (broadcastInDim S1024x1 ![0] bcast_S1024_S1024x1_0
          (Host.reduceAdd (res_main_v73 V) (constant S_ .f32 0x00000000#32) reducesTo_S1024x2048_S1024_d1 h_S_))
        (broadcastInDim S1024x1 ![] bcast_S_S1024x1 (constant S_ .f32 0x24E69595#32)))) (ix2 r n)
      = weights (o V r) (w V r) (contentStable (logit (o V r) (M V r))) n := by
  pointwise
  simp only [sharpened_read]
  rfl

/-- The reference's last operation, on any weights: each row's slots averaged with its weights. -/
theorem average_read (u : FVec Ideal S1024x2048 .f32) (mem : FVec Ideal S1024x2048x128 .f32) (r : Fin 1024) (j : Fin 128) :
    Host.dotGeneral dot_S1024x2048_S1024x2048x128_S1024x128_1_1_n_2_0_0 none u mem (ix2 r j)
      = read (slots mem r) (fun n => u (ix2 r n)) j := by
  pointwise
  rfl

end Cert.ReferenceIdeal.Rows
-- ==== Proof.Reference.lean ====
/-
  THE REFERENCE'S TWO RESULTS: where every row's sharpness output is below infinity, its last two operations give the
  answer, the largest logit it subtracts making no difference.
-/
module

public import proofs.«01_k».proof.Proof.Rows
public import proofs.«01_k».proof.Proof.Softmax

@[expose] public section

set_option maxRecDepth 16384

noncomputable section

open Idealize.ShloMosaic Idealize.ShloMosaic.TcCoe Idealize.SL.Sem Idealize.ShloMosaic.StableHlo

namespace Cert.ReferenceIdeal.Rows

open Cert.ReferenceIdeal Cert.ReferenceIdeal.Gen Cert.ReferenceIdeal.Value Cert.Head

variable (V : Valuation τ sig (Elt Ideal))

/-- The answer's weights on the reference's arguments. -/
abbrev weightsOf : S1024x2048.Idx → EReal :=
  answerWeights (V (Proc.devRef .tc main_arg0)) (V (Proc.devRef .tc main_arg1)) (V (Proc.devRef .tc main_arg2))
    (V (Proc.devRef .tc main_arg3)) (V (Proc.devRef .tc main_arg4))

/-- The answer's vectors read on the reference's arguments. -/
abbrev readOf : S1024x128.Idx → EReal :=
  answerRead (V (Proc.devRef .tc main_arg0)) (V (Proc.devRef .tc main_arg1)) (V (Proc.devRef .tc main_arg2))
    (V (Proc.devRef .tc main_arg3)) (V (Proc.devRef .tc main_arg4))

/-- The reference's second result, the new weights, is the answer's. -/
theorem weights_eq (h : ∀ r, o V r 128 < ⊤) :
    Host.divf (res_main_v73 V) (broadcastInDim S1024x2048 ![0, 1] bcast_S1024x1_S1024x2048_0_1
      (addf (broadcastInDim S1024x1 ![0] bcast_S1024_S1024x1_0
          (Host.reduceAdd (res_main_v73 V) (constant S_ .f32 0x00000000#32) reducesTo_S1024x2048_S1024_d1 h_S_))
        (broadcastInDim S1024x1 ![] bcast_S_S1024x1 (constant S_ .f32 0x24E69595#32)))) = weightsOf V := by
  funext y
  idx_vars y
  refine (weights_read V y0 y1).trans ?_
  rw [contentStable_eq_content _ (logit_lt_top _ (h y0))]
  rfl

/-- Averaging the slots with the answer's weights is the answer's first result, the vectors read. -/
theorem read_eq :
    Host.dotGeneral (F := Ideal) (φ₁ := .f32) (φ₂ := .f32) dot_S1024x2048_S1024x2048x128_S1024x128_1_1_n_2_0_0 none (weightsOf V) (V (Proc.devRef .tc main_arg2))
      = readOf V := by
  funext y
  idx_vars y
  exact average_read (weightsOf V) _ y0 y1

end Cert.ReferenceIdeal.Rows
-- ==== Proof.Precondition.lean ====
/-
  THE PRECONDITION: what the predicate says, read on a row. The sharpness output of every row's controller lies below
  infinity.
-/
module

public import proofs.«01_k».proof.Pre_sharpness_below_infinity
public import proofs.«01_k».proof.Proof.Answer

@[expose] public section

set_option maxRecDepth 16384

noncomputable section

open Idealize.ShloMosaic

namespace Cert.Pre_sharpness_below_infinity

/-- The shape relations of the predicate's operations hold. -/
theorem shapes : Facts where
  slices_S134x512_S1x512_128_0 := by decide
  shapeCasts_S1x512_S512 := by decide
  slices_S134_S1_128 := by decide
  shapeCasts_S1_S_ := by decide
  bcast_S_S1024 := by decide
  dot_S1024x512_S512_S1024_1_0_0_n_n_n_wf := by decide

variable [Facts]

/-- Where the predicate holds, every row's sharpness output is below infinity. -/
theorem below_infinity (x : FVec Ideal S1024x512 .f32) (wp : FVec Ideal S1024x2048 .f32) (mem : FVec Ideal S1024x2048x128 .f32)
    (W : FVec Ideal S134x512 .f32) (b : FVec Ideal S134 .f32) (h : fn (F := Ideal) x wp mem W b = fun _ => 1#1) (r : Fin 1024) :
    Head.controller x W b r 128 < ⊤ := by
  have e := congrFun h (ix1 r)
  unfold fn at e
  pointwise at e
  rw [show Ideal.ofBits FTy.f32 2139095040#32 = ⊤ by simp [Ideal.ofBits, Ideal.ieee]] at e
  by_contra hn
  rw [decide_eq_false (show ¬∑ k, x (ix2 r k) * W (ix2 128 k) + b (ix1 128) < ⊤ from hn)] at e
  exact absurd e (by decide)

end Cert.Pre_sharpness_below_infinity
-- ==== Proof.lean ====
/-
  THE CERTIFICATE: the kernel and its idealization end with their arguments as they were, and so does the reference; and
  where every row's sharpness output is below infinity, the idealized kernel's two results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Arrays
public import proofs.«01_k».proof.Proof.Reference
public import proofs.«01_k».proof.Proof.Precondition
public import Idealize.ShloMosaic.Adequacy
public import Idealize.ShloMosaic.Init

@[expose] public section

noncomputable section

namespace Cert.Proof

open Idealize.ShloMosaic Idealize.SL.Sem

instance : Cert.Pre_sharpness_below_infinity.Facts := Cert.Pre_sharpness_below_infinity.shapes

/-- The reference ends with its arguments as they were and, having no semaphore, with every counter at zero. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => (∀ c : Dev ReferenceIdeal.nD,
        r.2.mem (c.tc.loc ReferenceIdeal.main_arg0) = m (c.tc.loc ReferenceIdeal.main_arg0)
        ∧ r.2.mem (c.tc.loc ReferenceIdeal.main_arg1) = m (c.tc.loc ReferenceIdeal.main_arg1)
        ∧ r.2.mem (c.tc.loc ReferenceIdeal.main_arg2) = m (c.tc.loc ReferenceIdeal.main_arg2)
        ∧ r.2.mem (c.tc.loc ReferenceIdeal.main_arg3) = m (c.tc.loc ReferenceIdeal.main_arg3)
        ∧ r.2.mem (c.tc.loc ReferenceIdeal.main_arg4) = m (c.tc.loc ReferenceIdeal.main_arg4))
        ∧ r.2.sem = fun _ => 0) :=
  (θ_run _ _ _).mono (fun r h => ⟨fun c => (h c).2.2, sem_eq_zero_of_no_sems (by decide) r.2⟩)
    (ReferenceIdeal.Value.run m g)

/-- Where every row's sharpness output is below infinity, the idealized kernel and the reference end with equal results:
    both hold the answer's weights and the answer's vectors read. -/
theorem algebraic : Cert.algebraic_KernelIdeal_ReferenceIdeal_pre_sharpness_below_infinity := by
  intro m g m' g' hpre hagree
  refine ⟨_, _, KernelIdeal.Value.run_blocks m g, (θ_run _ _ _).mono (fun r h c => ?_) (ReferenceIdeal.Value.run m' g')⟩
  obtain ⟨a0, a1, a2, a3, a4⟩ := hagree c
  have small : ∀ r, ReferenceIdeal.Rows.o (StableHlo.launchContents m' c) r 128 < ⊤ := fun r => by
    refine lt_of_eq_of_lt ?_ (Pre_sharpness_below_infinity.below_infinity _ _ _ _ _ (hpre c) r)
    rw [← a0, ← a3, ← a4]
  obtain ⟨h0, h1, kept⟩ := h c
  have e := ReferenceIdeal.Rows.weights_eq _ small
  refine ⟨?_, ?_, kept⟩
  · rw [h0, e, ReferenceIdeal.Rows.read_eq, KernelIdeal.Arrays.final_read, ← a0, ← a1, ← a2, ← a3, ← a4]
  · rw [h1, e, KernelIdeal.Arrays.final_weights, ← a0, ← a1, ← a2, ← a3, ← a4]

/-- Every claim of the certificate. -/
theorem claim : Cert.Claim :=
  ⟨Cert.Kernel.Gen.facts, Cert.KernelIdeal.Gen.facts, Cert.ReferenceIdeal.Gen.facts, Cert.Pre_sharpness_below_infinity.shapes,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ, trivial, algebraic⟩

end Cert.Proof

end
